-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x256 : Shape := ⟨2, ![1, 256]⟩
abbrev S1000x256 : Shape := ⟨2, ![1000, 256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x256 : Shape := ⟨2, ![160000, 256]⟩
abbrev S10000 : Shape := ⟨1, ![10000]⟩
abbrev S10000x1 : Shape := ⟨2, ![10000, 1]⟩

abbrev nBuf : Space → Nat
  | .hbm => 146
  | .vmem => 12
  | .smem => 0
  | _ => 0

abbrev hbmTy0_0 (i : Nat) : BufTy := match i % 128 with
  | 0 => ⟨S10000x256, .f32⟩
  | 1 => ⟨S10000x256, .f32⟩
  | 2 => ⟨S2x160000, .i32⟩
  | 3 => ⟨S2x160000, .i32⟩
  | 4 => ⟨S2x160000, .i32⟩
  | 5 => ⟨S256x256, .f32⟩
  | 6 => ⟨S256, .f32⟩
  | 7 => ⟨S256x256, .f32⟩
  | 8 => ⟨S256, .f32⟩
  | 9 => ⟨S1x256, .f32⟩
  | 10 => ⟨S10000x256, .f32⟩
  | 11 => ⟨S1x256, .f32⟩
  | 12 => ⟨S10000x256, .f32⟩
  | 13 => ⟨S1x160000, .i32⟩
  | 14 => ⟨S160000, .i32⟩
  | 15 => ⟨S1x160000, .i32⟩
  | 16 => ⟨S160000, .i32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S1, .i32⟩
  | 26 => ⟨S_, .i32⟩
  | 27 => ⟨S160000x1, .i32⟩
  | 28 => ⟨S160000x1, .i1⟩
  | 29 => ⟨S1x1, .i32⟩
  | 30 => ⟨S160000x1, .i32⟩
  | 31 => ⟨S160000x1, .i1⟩
  | 32 => ⟨S160000x1, .i1⟩
  | 33 => ⟨S_, .i1⟩
  | 34 => ⟨S160000, .i1⟩
  | 35 => ⟨S160000x256, .f32⟩
  | 36 => ⟨S160000x256, .i1⟩
  | 37 => ⟨S_, .f32⟩
  | 38 => ⟨S160000x256, .f32⟩
  | 39 => ⟨S160000x256, .f32⟩
  | 40 => ⟨S_, .f32⟩
  | 41 => ⟨S10000x256, .f32⟩
  | 42 => ⟨S160000x1, .i32⟩
  | 43 => ⟨S10000x256, .f32⟩
  | 44 => ⟨S_, .f32⟩
  | 45 => ⟨S160000, .f32⟩
  | 46 => ⟨S_, .f32⟩
  | 47 => ⟨S10000, .f32⟩
  | 48 => ⟨S160000x1, .i32⟩
  | 49 => ⟨S10000, .f32⟩
  | 50 => ⟨S_, .f32⟩
  | 51 => ⟨S10000, .f32⟩
  | 52 => ⟨S10000, .f32⟩
  | 53 => ⟨S10000x1, .f32⟩
  | 54 => ⟨S10000x256, .f32⟩
  | 55 => ⟨S10000x256, .f32⟩
  | 56 => ⟨S1x160000, .i32⟩
  | 57 => ⟨S160000, .i32⟩
  | 58 => ⟨S1x160000, .i32⟩
  | 59 => ⟨S160000, .i32⟩
  | 60 => ⟨S_, .i32⟩
  | 61 => ⟨S160000, .i32⟩
  | 62 => ⟨S160000, .i1⟩
  | 63 => ⟨S_, .i32⟩
  | 64 => ⟨S160000, .i32⟩
  | 65 => ⟨S160000, .i32⟩
  | 66 => ⟨S160000, .i32⟩
  | 67 => ⟨S160000x1, .i32⟩
  | 68 => ⟨S1, .i32⟩
  | 69 => ⟨S_, .i32⟩
  | 70 => ⟨S160000x1, .i32⟩
  | 71 => ⟨S160000x1, .i1⟩
  | 72 => ⟨S1x1, .i32⟩
  | 73 => ⟨S160000x1, .i32⟩
  | 74 => ⟨S160000x1, .i1⟩
  | 75 => ⟨S160000x1, .i1⟩
  | 76 => ⟨S_, .i1⟩
  | 77 => ⟨S160000, .i1⟩
  | 78 => ⟨S160000x256, .f32⟩
  | 79 => ⟨S160000x256, .i1⟩
  | 80 => ⟨S_, .f32⟩
  | 81 => ⟨S160000x256, .f32⟩
  | 82 => ⟨S160000x256, .f32⟩
  | 83 => ⟨S_, .f32⟩
  | 84 => ⟨S10000x256, .f32⟩
  | 85 => ⟨S160000x1, .i32⟩
  | 86 => ⟨S10000x256, .f32⟩
  | 87 => ⟨S_, .f32⟩
  | 88 => ⟨S160000, .f32⟩
  | 89 => ⟨S_, .f32⟩
  | 90 => ⟨S10000, .f32⟩
  | 91 => ⟨S160000x1, .i32⟩
  | 92 => ⟨S10000, .f32⟩
  | 93 => ⟨S_, .f32⟩
  | 94 => ⟨S10000, .f32⟩
  | 95 => ⟨S10000, .f32⟩
  | 96 => ⟨S10000x1, .f32⟩
  | 97 => ⟨S10000x256, .f32⟩
  | 98 => ⟨S10000x256, .f32⟩
  | 99 => ⟨S10000x256, .f32⟩
  | 100 => ⟨S_, .f32⟩
  | 101 => ⟨S10000x256, .f32⟩
  | 102 => ⟨S10000x256, .f32⟩
  | 103 => ⟨S1x160000, .i32⟩
  | 104 => ⟨S160000, .i32⟩
  | 105 => ⟨S1x160000, .i32⟩
  | 106 => ⟨S160000, .i32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S1, .i32⟩
  | 116 => ⟨S_, .i32⟩
  | 117 => ⟨S160000x1, .i32⟩
  | 118 => ⟨S160000x1, .i1⟩
  | 119 => ⟨S1x1, .i32⟩
  | 120 => ⟨S160000x1, .i32⟩
  | 121 => ⟨S160000x1, .i1⟩
  | 122 => ⟨S160000x1, .i1⟩
  | 123 => ⟨S_, .i1⟩
  | 124 => ⟨S160000, .i1⟩
  | 125 => ⟨S160000x256, .f32⟩
  | 126 => ⟨S160000x256, .i1⟩
  | 127 => ⟨S_, .f32⟩
  | _ => ⟨S10000x256, .f32⟩

abbrev hbmTy0_1 (i : Nat) : BufTy := match i % 128 with
  | 0 => ⟨S160000x256, .f32⟩
  | 1 => ⟨S160000x256, .f32⟩
  | 2 => ⟨S_, .f32⟩
  | 3 => ⟨S10000x256, .f32⟩
  | 4 => ⟨S160000x1, .i32⟩
  | 5 => ⟨S10000x256, .f32⟩
  | 6 => ⟨S_, .f32⟩
  | 7 => ⟨S160000, .f32⟩
  | 8 => ⟨S_, .f32⟩
  | 9 => ⟨S10000, .f32⟩
  | 10 => ⟨S160000x1, .i32⟩
  | 11 => ⟨S10000, .f32⟩
  | 12 => ⟨S_, .f32⟩
  | 13 => ⟨S10000, .f32⟩
  | 14 => ⟨S10000, .f32⟩
  | 15 => ⟨S10000x1, .f32⟩
  | 16 => ⟨S10000x256, .f32⟩
  | 17 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v25 : Ref sig .tc := ⟨.hbm, 82, rfl⟩
abbrev main_cst_3 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_cst_4 : Ref sig .tc := ⟨.hbm, 87, rfl⟩
abbrev main_v29 : Ref sig .tc := ⟨.hbm, 88, rfl⟩
abbrev main_cst_5 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_cst_6 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_cst_7 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_cst : Ref sig .tc := ⟨.hbm, 127, rfl⟩
abbrev main_call2_v15 : Ref sig .tc := ⟨.hbm, 128, rfl⟩
abbrev main_v45 : Ref sig .tc := ⟨.hbm, 129, rfl⟩
abbrev main_cst_8 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_cst_9 : Ref sig .tc := ⟨.hbm, 134, rfl⟩
abbrev main_v49 : Ref sig .tc := ⟨.hbm, 135, rfl⟩
abbrev main_cst_10 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_cst_11 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x256 : Shape := ⟨2, ![1, 256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x256 : Shape := ⟨2, ![160000, 256]⟩
abbrev S10000 : Shape := ⟨1, ![10000]⟩
abbrev S10000x1 : Shape := ⟨2, ![10000, 1]⟩

abbrev nBuf : Space → Nat
  | .hbm => 150
  | .vmem => 0
  | .smem => 0
  | _ => 0

abbrev hbmTy0_0 (i : Nat) : BufTy := match i % 128 with
  | 0 => ⟨S10000x256, .f32⟩
  | 1 => ⟨S10000x256, .f32⟩
  | 2 => ⟨S2x160000, .i32⟩
  | 3 => ⟨S2x160000, .i32⟩
  | 4 => ⟨S2x160000, .i32⟩
  | 5 => ⟨S256x256, .f32⟩
  | 6 => ⟨S256, .f32⟩
  | 7 => ⟨S256x256, .f32⟩
  | 8 => ⟨S256, .f32⟩
  | 9 => ⟨S10000x256, .f32⟩
  | 10 => ⟨S1x256, .f32⟩
  | 11 => ⟨S10000x256, .f32⟩
  | 12 => ⟨S10000x256, .f32⟩
  | 13 => ⟨S10000x256, .f32⟩
  | 14 => ⟨S1x256, .f32⟩
  | 15 => ⟨S10000x256, .f32⟩
  | 16 => ⟨S10000x256, .f32⟩
  | 17 => ⟨S1x160000, .i32⟩
  | 18 => ⟨S160000, .i32⟩
  | 19 => ⟨S1x160000, .i32⟩
  | 20 => ⟨S160000, .i32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S1, .i32⟩
  | 30 => ⟨S_, .i32⟩
  | 31 => ⟨S160000x1, .i32⟩
  | 32 => ⟨S160000x1, .i1⟩
  | 33 => ⟨S1x1, .i32⟩
  | 34 => ⟨S160000x1, .i32⟩
  | 35 => ⟨S160000x1, .i1⟩
  | 36 => ⟨S160000x1, .i1⟩
  | 37 => ⟨S_, .i1⟩
  | 38 => ⟨S160000, .i1⟩
  | 39 => ⟨S160000x256, .f32⟩
  | 40 => ⟨S160000x256, .i1⟩
  | 41 => ⟨S_, .f32⟩
  | 42 => ⟨S160000x256, .f32⟩
  | 43 => ⟨S160000x256, .f32⟩
  | 44 => ⟨S_, .f32⟩
  | 45 => ⟨S10000x256, .f32⟩
  | 46 => ⟨S160000x1, .i32⟩
  | 47 => ⟨S10000x256, .f32⟩
  | 48 => ⟨S_, .f32⟩
  | 49 => ⟨S160000, .f32⟩
  | 50 => ⟨S_, .f32⟩
  | 51 => ⟨S10000, .f32⟩
  | 52 => ⟨S160000x1, .i32⟩
  | 53 => ⟨S10000, .f32⟩
  | 54 => ⟨S_, .f32⟩
  | 55 => ⟨S10000, .f32⟩
  | 56 => ⟨S10000, .f32⟩
  | 57 => ⟨S10000x1, .f32⟩
  | 58 => ⟨S10000x256, .f32⟩
  | 59 => ⟨S10000x256, .f32⟩
  | 60 => ⟨S1x160000, .i32⟩
  | 61 => ⟨S160000, .i32⟩
  | 62 => ⟨S1x160000, .i32⟩
  | 63 => ⟨S160000, .i32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S1, .i32⟩
  | 73 => ⟨S_, .i32⟩
  | 74 => ⟨S160000x1, .i32⟩
  | 75 => ⟨S160000x1, .i1⟩
  | 76 => ⟨S1x1, .i32⟩
  | 77 => ⟨S160000x1, .i32⟩
  | 78 => ⟨S160000x1, .i1⟩
  | 79 => ⟨S160000x1, .i1⟩
  | 80 => ⟨S_, .i1⟩
  | 81 => ⟨S160000, .i1⟩
  | 82 => ⟨S160000x256, .f32⟩
  | 83 => ⟨S160000x256, .i1⟩
  | 84 => ⟨S_, .f32⟩
  | 85 => ⟨S160000x256, .f32⟩
  | 86 => ⟨S160000x256, .f32⟩
  | 87 => ⟨S_, .f32⟩
  | 88 => ⟨S10000x256, .f32⟩
  | 89 => ⟨S160000x1, .i32⟩
  | 90 => ⟨S10000x256, .f32⟩
  | 91 => ⟨S_, .f32⟩
  | 92 => ⟨S160000, .f32⟩
  | 93 => ⟨S_, .f32⟩
  | 94 => ⟨S10000, .f32⟩
  | 95 => ⟨S160000x1, .i32⟩
  | 96 => ⟨S10000, .f32⟩
  | 97 => ⟨S_, .f32⟩
  | 98 => ⟨S10000, .f32⟩
  | 99 => ⟨S10000, .f32⟩
  | 100 => ⟨S10000x1, .f32⟩
  | 101 => ⟨S10000x256, .f32⟩
  | 102 => ⟨S10000x256, .f32⟩
  | 103 => ⟨S1x160000, .i32⟩
  | 104 => ⟨S160000, .i32⟩
  | 105 => ⟨S1x160000, .i32⟩
  | 106 => ⟨S160000, .i32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S1, .i32⟩
  | 116 => ⟨S_, .i32⟩
  | 117 => ⟨S160000x1, .i32⟩
  | 118 => ⟨S160000x1, .i1⟩
  | 119 => ⟨S1x1, .i32⟩
  | 120 => ⟨S160000x1, .i32⟩
  | 121 => ⟨S160000x1, .i1⟩
  | 122 => ⟨S160000x1, .i1⟩
  | 123 => ⟨S_, .i1⟩
  | 124 => ⟨S160000, .i1⟩
  | 125 => ⟨S160000x256, .f32⟩
  | 126 => ⟨S160000x256, .i1⟩
  | 127 => ⟨S_, .f32⟩
  | _ => ⟨S10000x256, .f32⟩

abbrev hbmTy0_1 (i : Nat) : BufTy := match i % 128 with
  | 0 => ⟨S160000x256, .f32⟩
  | 1 => ⟨S160000x256, .f32⟩
  | 2 => ⟨S_, .f32⟩
  | 3 => ⟨S10000x256, .f32⟩
  | 4 => ⟨S160000x1, .i32⟩
  | 5 => ⟨S10000x256, .f32⟩
  | 6 => ⟨S_, .f32⟩
  | 7 => ⟨S160000, .f32⟩
  | 8 => ⟨S_, .f32⟩
  | 9 => ⟨S10000, .f32⟩
  | 10 => ⟨S160000x1, .i32⟩
  | 11 => ⟨S10000, .f32⟩
  | 12 => ⟨S_, .f32⟩
  | 13 => ⟨S10000, .f32⟩
  | 14 => ⟨S10000, .f32⟩
  | 15 => ⟨S10000x1, .f32⟩
  | 16 => ⟨S10000x256, .f32⟩
  | 17 => ⟨S10000x256, .f32⟩
  | 18 => ⟨S10000x256, .f32⟩
  | 19 => ⟨S_, .f32⟩
  | 20 => ⟨S10000x256, .f32⟩
  | 21 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v12 : Ref sig .tc := ⟨.hbm, 43, rfl⟩
abbrev main_cst : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_0 : Ref sig .tc := ⟨.hbm, 48, rfl⟩
abbrev main_v16 : Ref sig .tc := ⟨.hbm, 49, rfl⟩
abbrev main_cst_1 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_2 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v29 : Ref sig .tc := ⟨.hbm, 86, rfl⟩
abbrev main_cst_3 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_cst_4 : Ref sig .tc := ⟨.hbm, 91, rfl⟩
abbrev main_v33 : Ref sig .tc := ⟨.hbm, 92, rfl⟩
abbrev main_cst_5 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_6 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_cst : Ref sig .tc := ⟨.hbm, 127, rfl⟩
abbrev main_call2_v15 : Ref sig .tc := ⟨.hbm, 128, rfl⟩
abbrev main_v46 : Ref sig .tc := ⟨.hbm, 129, rfl⟩
abbrev main_cst_7 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_cst_8 : Ref sig .tc := ⟨.hbm, 134, rfl⟩
abbrev main_v50 : Ref sig .tc := ⟨.hbm, 135, rfl⟩
abbrev main_cst_9 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_cst_10 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_cst_11 : Ref sig .tc := ⟨.hbm, 147, rfl⟩
abbrev main_v60 : Ref sig .tc := ⟨.hbm, 148, rfl⟩
abbrev main_v61 : Ref sig .tc := ⟨.hbm, 149, rfl⟩

abbrev nD : Nat := 1
abbrev τ : Topo := Topo.v7x

variable {F : FTy → Type} [FloatOps F]
-- ==== Proof.Projection.lean ====
/-
  The two projections.  Each pallas_call of the kernel walks ten blocks of a thousand rows; at a block it multiplies the
  rows by the whole weight matrix and adds the bias row.  Here: at the ideal instance the array a call leaves is
  `project x w b`, the sum over the 256 inputs of `x r k * w k j`, plus `b j`, at every row `r` and column `j`.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Mean

open Cert.KernelIdeal Cert.KernelIdeal.Gen Idealize.ShloMosaic Idealize.ShloMosaic.TcCoe Idealize.SL.Sem
open Idealize.ShloMosaic.Pipeline (Dat)

/-- A linear layer over the extended reals: row `r`, column `j` holds `∑ k, x r k * w k j`, plus the bias of column `j`. -/
def project (x : Vec Ideal S10000x256 .f32) (w : Vec Ideal S256x256 .f32) (b : Vec Ideal S1x256 .f32) :
    Vec Ideal S10000x256 .f32 :=
  fun i => (∑ k : Fin 256, x (ix2 (i 0) k) * w (ix2 k (i 1)) : EReal) + b (ix2 0 (i 1))

theorem project_apply (x : Vec Ideal S10000x256 .f32) (w : Vec Ideal S256x256 .f32) (b : Vec Ideal S1x256 .f32)
    (r : Fin 10000) (j : Fin 256) :
    project x w b (ix2 r j) = (∑ k : Fin 256, x (ix2 r k) * w (ix2 k j) : EReal) + b (ix2 0 j) := rfl

/-- A position of a block of rows is its row and its column. -/
theorem block_position (y : S1000x256.Idx) : ∃ (r : Fin 1000) (j : Fin 256), y = ix2 r j :=
  ⟨y 0, y 1, funext fun a => by fin_cases a <;> rfl⟩

/-- The offset of an access to a whole two-axis buffer is zero along each axis. -/
theorem origin2 : (![0, 0] : Fin 2 → Nat) = fun _ => 0 := funext fun a => by fin_cases a <;> rfl

/-- The body's stored value at row `r`, column `j` of a block: that row's product with the weights, plus the bias. -/
theorem pay_apply (x : Vec Ideal S1000x256 .f32) (w : Vec Ideal S256x256 .f32) (b : Vec Ideal S1x256 .f32)
    (r : Fin 1000) (j : Fin 256) :
    k0_pay1 (F := Ideal) x w b (ix2 r j) = (∑ k : Fin 256, x (ix2 r k) * w (ix2 k j) : EReal) + b (ix2 0 j) := by
  unfold k0_pay1
  pointwise

/-- Two positions of a two-axis array are equal when their rows and their columns are. -/
theorem position_ext {n p : Nat} {x y : (⟨2, ![n, p]⟩ : Shape).Idx} (h0 : (x 0).val = (y 0).val)
    (h1 : (x 1).val = (y 1).val) : x = y :=
  funext fun a => Fin.ext (match a with | ⟨0, _⟩ => h0 | ⟨1, _⟩ => h1)

/-- Row `r` of block `t`, as a row of the whole array. -/
def rowOf (t : Fin 10) (r : Fin 1000) : Fin 10000 := ⟨1000 * t.val + r.val, by omega⟩

/-- A block of rows of `x` through the body, with all the weights and the bias, is that block of rows of the projection. -/
theorem pay_block {xb : Vec Ideal S1000x256 .f32} {wb : Vec Ideal S256x256 .f32} {bb : Vec Ideal S1x256 .f32}
    {x : Vec Ideal S10000x256 .f32} {w : Vec Ideal S256x256 .f32} {b : Vec Ideal S1x256 .f32}
    {out : Vec Ideal S1000x256 .f32} (t : Fin 10)
    (hx : ∀ r k, xb (ix2 r k) = x (ix2 (rowOf t r) k)) (hw : ∀ k j, wb (ix2 k j) = w (ix2 k j))
    (hb : ∀ j, bb (ix2 0 j) = b (ix2 0 j)) (ho : ∀ r j, out (ix2 r j) = project x w b (ix2 (rowOf t r) j)) :
    k0_pay1 (F := Ideal) xb wb bb = out := by
  refine funext fun (y : S1000x256.Idx) => ?_
  obtain ⟨r, j, rfl⟩ := block_position y
  rw [pay_apply, ho, project_apply, hb]
  refine congrArg (· + _) (Finset.sum_congr rfl fun k _ => ?_)
  rw [hx, hw]

variable (V : (c : Dev nD) → (b : Ref sig .tc) → Buf (Elt Ideal) ((c : Thread nD τ).loc b))

/-! ## Region 0: the users -/

/-- Where each window's block starts at point `t`: the rows and the result at row `1000 * t`, weights and bias at zero. -/
theorem start0 : ∀ t : Fin grid0.N,
    (win0_0.index t 0 * win0_0.size 0 = 1000 * t.val ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 1000 * t.val ∧ win0_3.index t 1 * win0_3.size 1 = 0) := by
  decide +kernel

/-- What point `t` writes back is its block of the projection: the operands' blocks are rows `1000 * t` on, all the
    weights and all the bias, and the result's block is rows `1000 * t` on. -/
theorem written0 (c : Dev nD) (t : Fin cfg0.N) :
    (dat0 V c).flushed 3 t
      = (win0_3.blk t).view.read (Elt Ideal) (project (V c main_arg0) (V c main_arg5) (V c main_v0)) := by
  show (cfg0.win 3).cut (grid0.coords t) ((dat0 V c).after 3 t) = _
  rw [after0_3]
  unfold out0_3
  rw [View.canon_unit_zero origin2, View.ld_unit_zero origin2, View.ld_unit_zero origin2, View.ld_unit_zero origin2]
  obtain ⟨⟨hx0, hx1⟩, ⟨hw0, hw1⟩, ⟨hb0, hb1⟩, ho0, ho1⟩ := start0 t
  refine pay_block (x := V c main_arg0) (w := V c main_arg5) (b := V c main_v0) (t.cast Gen.N_0)
    (fun r k => congrArg (V c main_arg0 : Vec Ideal S10000x256 .f32) (position_ext ?_ ?_))
    (fun k j => congrArg (V c main_arg5 : Vec Ideal S256x256 .f32) (position_ext ?_ ?_))
    (fun j => congrArg (V c main_v0 : Vec Ideal S1x256 .f32) (position_ext ?_ ?_))
    (fun r j => congrArg (project (V c main_arg0) (V c main_arg5) (V c main_v0)) (position_ext ?_ ?_))
  · show win0_0.index t 0 * win0_0.size 0 + 1 * r.val = 1000 * t.val + r.val
    rw [hx0, Nat.one_mul]
  · show win0_0.index t 1 * win0_0.size 1 + 1 * k.val = k.val
    rw [hx1, Nat.one_mul, Nat.zero_add]
  · show win0_1.index t 0 * win0_1.size 0 + 1 * k.val = k.val
    rw [hw0, Nat.one_mul, Nat.zero_add]
  · show win0_1.index t 1 * win0_1.size 1 + 1 * j.val = j.val
    rw [hw1, Nat.one_mul, Nat.zero_add]
  · show win0_2.index t 0 * win0_2.size 0 + 1 * 0 = 0
    rw [hb0]
  · show win0_2.index t 1 * win0_2.size 1 + 1 * j.val = j.val
    rw [hb1, Nat.one_mul, Nat.zero_add]
  · show win0_3.index t 0 * win0_3.size 0 + 1 * r.val = 1000 * t.val + r.val
    rw [ho0, Nat.one_mul]
  · show win0_3.index t 1 * win0_3.size 1 + 1 * j.val = j.val
    rw [ho1, Nat.one_mul, Nat.zero_add]

/-- Every row of the result lies in the block of one point, row `r` in that of point `r / 1000`. -/
theorem covered0 (i : S10000x256.Idx) :
    ∃ t : Fin cfg0.N, (cfg0.win 3).flush t = true ∧ i ∈ ((cfg0.win 3).blk t).view.set := by
  have h0 : (i 0 : Nat) < 10000 := (i 0).isLt
  have h1 : (i 1 : Nat) < 256 := (i 1).isLt
  refine ⟨⟨(i 0 : Nat) / 1000, by show _ < grid0.N; rw [Gen.N_0]; omega⟩, flush0_3 _, ?_⟩
  generalize ht : (⟨(i 0 : Nat) / 1000, _⟩ : Fin cfg0.N) = t
  have hv : t.val = (i 0 : Nat) / 1000 := by rw [← ht]
  obtain ⟨-, -, -, ho0, ho1⟩ := start0 t
  show i ∈ ((View.whole main_v1).slice (win0_3.rect t)).set
  rw [View.set_slice_whole, Rect.mem_set_unit]
  intro a
  match a with
  | ⟨0, _⟩ => show win0_3.index t 0 * win0_3.size 0 ≤ (i 0 : Nat) ∧ (i 0 : Nat) < win0_3.index t 0 * win0_3.size 0 + 1000
              rw [ho0]; omega
  | ⟨1, _⟩ => show win0_3.index t 1 * win0_3.size 1 ≤ (i 1 : Nat) ∧ (i 1 : Nat) < win0_3.index t 1 * win0_3.size 1 + 256
              rw [ho1]; omega

/-- The array the first call leaves is the projection of its operands as the call finds them. -/
theorem projected0 (c : Dev nD) :
    (dat0 V c).arrAt 3 cfg0.N = project (V c main_arg0) (V c main_arg5) (V c main_v0) :=
  (dat0 V c).arrAt_eq_of_cover 3 (project (V c main_arg0) (V c main_arg5) (V c main_v0))
    (fun t _ => written0 V c t) covered0

/-! ## Region 1: the items -/

/-- Where each window's block starts at point `t`: the rows and the result at row `1000 * t`, weights and bias at zero. -/
theorem start1 : ∀ t : Fin grid1.N,
    (win1_0.index t 0 * win1_0.size 0 = 1000 * t.val ∧ win1_0.index t 1 * win1_0.size 1 = 0)
    ∧ (win1_1.index t 0 * win1_1.size 0 = 0 ∧ win1_1.index t 1 * win1_1.size 1 = 0)
    ∧ (win1_2.index t 0 * win1_2.size 0 = 0 ∧ win1_2.index t 1 * win1_2.size 1 = 0)
    ∧ (win1_3.index t 0 * win1_3.size 0 = 1000 * t.val ∧ win1_3.index t 1 * win1_3.size 1 = 0) := by
  decide +kernel

/-- What point `t` writes back is its block of the projection: the operands' blocks are rows `1000 * t` on, all the
    weights and all the bias, and the result's block is rows `1000 * t` on. -/
theorem written1 (c : Dev nD) (t : Fin cfg1.N) :
    (dat1 V c).flushed 3 t
      = (win1_3.blk t).view.read (Elt Ideal) (project (V c main_arg1) (V c main_arg7) (V c main_v2)) := by
  show (cfg1.win 3).cut (grid1.coords t) ((dat1 V c).after 3 t) = _
  rw [after1_3]
  unfold out1_3
  rw [View.canon_unit_zero origin2, View.ld_unit_zero origin2, View.ld_unit_zero origin2, View.ld_unit_zero origin2]
  obtain ⟨⟨hx0, hx1⟩, ⟨hw0, hw1⟩, ⟨hb0, hb1⟩, ho0, ho1⟩ := start1 t
  refine pay_block (x := V c main_arg1) (w := V c main_arg7) (b := V c main_v2) (t.cast Gen.N_1)
    (fun r k => congrArg (V c main_arg1 : Vec Ideal S10000x256 .f32) (position_ext ?_ ?_))
    (fun k j => congrArg (V c main_arg7 : Vec Ideal S256x256 .f32) (position_ext ?_ ?_))
    (fun j => congrArg (V c main_v2 : Vec Ideal S1x256 .f32) (position_ext ?_ ?_))
    (fun r j => congrArg (project (V c main_arg1) (V c main_arg7) (V c main_v2)) (position_ext ?_ ?_))
  · show win1_0.index t 0 * win1_0.size 0 + 1 * r.val = 1000 * t.val + r.val
    rw [hx0, Nat.one_mul]
  · show win1_0.index t 1 * win1_0.size 1 + 1 * k.val = k.val
    rw [hx1, Nat.one_mul, Nat.zero_add]
  · show win1_1.index t 0 * win1_1.size 0 + 1 * k.val = k.val
    rw [hw0, Nat.one_mul, Nat.zero_add]
  · show win1_1.index t 1 * win1_1.size 1 + 1 * j.val = j.val
    rw [hw1, Nat.one_mul, Nat.zero_add]
  · show win1_2.index t 0 * win1_2.size 0 + 1 * 0 = 0
    rw [hb0]
  · show win1_2.index t 1 * win1_2.size 1 + 1 * j.val = j.val
    rw [hb1, Nat.one_mul, Nat.zero_add]
  · show win1_3.index t 0 * win1_3.size 0 + 1 * r.val = 1000 * t.val + r.val
    rw [ho0, Nat.one_mul]
  · show win1_3.index t 1 * win1_3.size 1 + 1 * j.val = j.val
    rw [ho1, Nat.one_mul, Nat.zero_add]

/-- Every row of the result lies in the block of one point, row `r` in that of point `r / 1000`. -/
theorem covered1 (i : S10000x256.Idx) :
    ∃ t : Fin cfg1.N, (cfg1.win 3).flush t = true ∧ i ∈ ((cfg1.win 3).blk t).view.set := by
  have h0 : (i 0 : Nat) < 10000 := (i 0).isLt
  have h1 : (i 1 : Nat) < 256 := (i 1).isLt
  refine ⟨⟨(i 0 : Nat) / 1000, by show _ < grid1.N; rw [Gen.N_1]; omega⟩, flush1_3 _, ?_⟩
  generalize ht : (⟨(i 0 : Nat) / 1000, _⟩ : Fin cfg1.N) = t
  have hv : t.val = (i 0 : Nat) / 1000 := by rw [← ht]
  obtain ⟨-, -, -, ho0, ho1⟩ := start1 t
  show i ∈ ((View.whole main_v3).slice (win1_3.rect t)).set
  rw [View.set_slice_whole, Rect.mem_set_unit]
  intro a
  match a with
  | ⟨0, _⟩ => show win1_3.index t 0 * win1_3.size 0 ≤ (i 0 : Nat) ∧ (i 0 : Nat) < win1_3.index t 0 * win1_3.size 0 + 1000
              rw [ho0]; omega
  | ⟨1, _⟩ => show win1_3.index t 1 * win1_3.size 1 ≤ (i 1 : Nat) ∧ (i 1 : Nat) < win1_3.index t 1 * win1_3.size 1 + 256
              rw [ho1]; omega

/-- The array the second call leaves is the projection of its operands as the call finds them. -/
theorem projected1 (c : Dev nD) :
    (dat1 V c).arrAt 3 cfg1.N = project (V c main_arg1) (V c main_arg7) (V c main_v2) :=
  (dat1 V c).arrAt_eq_of_cover 3 (project (V c main_arg1) (V c main_arg7) (V c main_v2))
    (fun t _ => written1 V c t) covered1

end Cert.KernelIdeal.Mean

end
-- ==== Proof.EdgeMean.lean ====
/-
  The averaging over one edge type, as the host operations of both programs spell it.  An edge list holds the source
  nodes in its first row and the target nodes in its second.  `takeRows` fetches a row of the features for each source
  (a negative index counts from the end; an index outside the array fetches NaN); `segMean` sums the fetched rows by target and
  divides by how many there are, at least one.
-/
module

public import proofs.«01_k».proof.Proof.Gen.KernelIdeal.Frame

@[expose] public section

set_option maxRecDepth 16384

noncomputable section

namespace Cert.KernelIdeal.Mean

open Cert.KernelIdeal Cert.KernelIdeal.Gen Idealize.ShloMosaic Idealize.ShloMosaic.TcCoe Idealize.SL.Sem

variable {F : FTy → Type} [FloatOps F]

/-- The source nodes of an edge list: its first row. -/
def sources (e : Vec F S2x160000 .i32) : Vec F S160000 .i32 :=
  shapeCast S160000 (extractStridedSlice S1x160000 ![0, 0] e slices_S2x160000_S1x160000_0_0) shapeCasts_S1x160000_S160000

/-- The target nodes of an edge list: its second row. -/
def targets (e : Vec F S2x160000 .i32) : Vec F S160000 .i32 :=
  shapeCast S160000 (extractStridedSlice S1x160000 ![1, 0] e slices_S2x160000_S1x160000_1_0) shapeCasts_S1x160000_S160000

/-- The row each index names, a negative one counted from the end of the 10000 rows. -/
def wrapped (s : Vec F S160000 .i32) : Vec F S160000x1 .i32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 10000#32))) s)

/-- The features' row for each index, NaN for an index that names none of the 10000 rows. -/
def takeRows (h : Vec F S10000x256 .f32) (s : Vec F S160000 .i32) : Vec F S160000x256 .f32 :=
  select
    (broadcastInDim S160000x256 ![0] bcast_S160000_S160000x256_0
      (Host.reduce IntOp.andi
        (andi (cmpi .sge (wrapped s) (broadcastInDim S160000x1 ![] bcast_S_S160000x1 (constantI S_ 32 0#32)))
          (cmpi .sle (wrapped s)
            (broadcastInDim S160000x1 ![0, 1] bcast_S1x1_S160000x1_0_1
              (broadcastInDim S1x1 ![1] bcast_S1_S1x1_1 (constantI S1 32 9999#32)))))
        (constantI S_ 1 1#1) reducesTo_S160000x1_S160000_d1 h_S_))
    (Host.gather gather_S10000x256_S160000x1_S160000x256_1_0_n_n_0_1_1256 h (wrapped s))
    (broadcastInDim S160000x256 ![] bcast_S_S160000x256 (constant S_ .f32 0x7FC00000#32))

/-- How many edges end at each node. -/
def counts (d : Vec F S160000 .i32) : Vec F S10000 .f32 :=
  Host.scatterAdd scatter_S10000_S160000x1_S160000_n_0_0_1
    (broadcastInDim S10000 ![] bcast_S_S10000 (constant S_ .f32 0x00000000#32))
    (broadcastInDim S160000x1 ![0] bcast_S160000_S160000x1_0 d)
    (broadcastInDim S160000 ![] bcast_S_S160000 (constant S_ .f32 0x3F800000#32))

/-- The rows summed by target, over the number of edges that end there or one if there are none. -/
def segMean (x : Vec F S160000x256 .f32) (d : Vec F S160000 .i32) : Vec F S10000x256 .f32 :=
  Host.divf
    (Host.scatterAdd scatter_S10000x256_S160000x1_S160000x256_1_0_0_1
      (broadcastInDim S10000x256 ![] bcast_S_S10000x256 (constant S_ .f32 0x00000000#32))
      (broadcastInDim S160000x1 ![0] bcast_S160000_S160000x1_0 d) x)
    (broadcastInDim S10000x256 ![0, 1] bcast_S10000x1_S10000x256_0_1
      (broadcastInDim S10000x1 ![0] bcast_S10000_S10000x1_0
        (maximumf (counts d) (broadcastInDim S10000 ![] bcast_S_S10000 (constant S_ .f32 0x3F800000#32)))))

/-- The mean over one edge type of the sources' features, at each target. -/
def edgeMean (h : Vec F S10000x256 .f32) (e : Vec F S2x160000 .i32) : Vec F S10000x256 .f32 :=
  segMean (takeRows h (sources e)) (targets e)

/-- The sum of two arrays times one half. -/
def halved (x y : Vec F S10000x256 .f32) : Vec F S10000x256 .f32 :=
  mulf (addf x y) (broadcastInDim S10000x256 ![] bcast_S_S10000x256 (constant S_ .f32 0x3F000000#32))

end Cert.KernelIdeal.Mean

end
-- ==== Proof.HostTail.lean ====
/-
  What the kernel's host operations compute from the two projections: each segment of them read at what it starts from,
  then the two results in terms of the arrays the two calls leave and of the edge lists.
-/
module

public import proofs.«01_k».proof.Proof.EdgeMean

@[expose] public section

set_option maxRecDepth 16384

noncomputable section

namespace Cert.KernelIdeal.Mean

open Cert.KernelIdeal Cert.KernelIdeal.Gen Idealize.ShloMosaic Idealize.ShloMosaic.TcCoe Idealize.SL.Sem
open Idealize.ShloMosaic.StableHlo

variable {F : FTy → Type} [FloatOps F]

/-! ## Each segment, from any contents -/

section Segments
variable (V : Valuation τ sig (Elt F))

set_option maxHeartbeats 4000000

theorem bias_user : after hostOps0 V (Proc.devRef .tc main_v0)
    = shapeCast S1x256 (V (Proc.devRef .tc main_arg6) : Vec F S256 .f32) shapeCasts_S256_S1x256 := by
  after_results_simp <;> rfl

theorem bias_item : after hostOps1 V (Proc.devRef .tc main_v2)
    = shapeCast S1x256 (V (Proc.devRef .tc main_arg8) : Vec F S256 .f32) shapeCasts_S256_S1x256 := by
  after_results_simp <;> rfl

theorem follows_sources : after hostOps2 V (Proc.devRef .tc main_v5) = sources (V (Proc.devRef .tc main_arg2)) := by
  after_results_simp <;> rfl

theorem follows_targets : after hostOps2 V (Proc.devRef .tc main_v7) = targets (V (Proc.devRef .tc main_arg2)) := by
  after_results_simp <;> rfl

theorem follows_rows : after hostOps2_1 V (Proc.devRef .tc main_v8)
    = takeRows (V (Proc.devRef .tc main_v1)) (V (Proc.devRef .tc main_v5)) := by
  simp only [hostOps2_1, TRef.binary, TRef.nullary, TRef.ternary, TRef.unary, TRef.toBuf, TRef.ofBuf, cast_eq]
  after_results_simp <;> rfl

theorem follows_mean : after hostOps2_2 V (Proc.devRef .tc main_v20)
    = segMean (V (Proc.devRef .tc main_v8)) (V (Proc.devRef .tc main_v7)) := by
  after_results_simp <;> rfl

theorem rev_sources : after hostOps2_2 V (Proc.devRef .tc main_v22) = sources (V (Proc.devRef .tc main_arg4)) := by
  after_results_simp <;> rfl

theorem rev_targets : after hostOps2_2 V (Proc.devRef .tc main_v24) = targets (V (Proc.devRef .tc main_arg4)) := by
  after_results_simp <;> rfl

theorem rev_rows : after hostOps2_3 V (Proc.devRef .tc main_v25)
    = takeRows (V (Proc.devRef .tc main_v3)) (V (Proc.devRef .tc main_v22)) := by
  simp only [hostOps2_3, TRef.binary, TRef.nullary, TRef.ternary, TRef.unary, TRef.toBuf, TRef.ofBuf, cast_eq]
  after_results_simp <;> rfl

theorem user_result : after hostOps2_4 V (Proc.devRef .tc main_v40)
    = halved (V (Proc.devRef .tc main_v20)) (segMean (V (Proc.devRef .tc main_v25)) (V (Proc.devRef .tc main_v24))) := by
  after_results_simp <;> rfl

theorem clicks_sources : after hostOps2_4 V (Proc.devRef .tc main_v42) = sources (V (Proc.devRef .tc main_arg3)) := by
  after_results_simp <;> rfl

theorem clicks_targets : after hostOps2_4 V (Proc.devRef .tc main_v44) = targets (V (Proc.devRef .tc main_arg3)) := by
  after_results_simp <;> rfl

theorem clicks_rows : after hostOps2_5 V (Proc.devRef .tc main_v45)
    = takeRows (V (Proc.devRef .tc main_v1)) (V (Proc.devRef .tc main_v42)) := by
  simp only [hostOps2_5, TRef.binary, TRef.nullary, TRef.ternary, TRef.unary, TRef.toBuf, TRef.ofBuf, cast_eq]
  after_results_simp <;> rfl

theorem item_result : after hostOps2_6 V (Proc.devRef .tc main_v57)
    = segMean (V (Proc.devRef .tc main_v45)) (V (Proc.devRef .tc main_v44)) := by
  after_results_simp <;> rfl

end Segments

end Cert.KernelIdeal.Mean

end
-- ==== Proof.KernelValue.lean ====
/-
  The kernel's two results as functions of its arguments: the contents the last segment leaves, traced back through the
  segments to the two projections and the edge lists.
-/
module

public import proofs.«01_k».proof.Proof.Projection
public import proofs.«01_k».proof.Proof.HostTail

@[expose] public section

set_option maxRecDepth 16384

noncomputable section

namespace Cert.KernelIdeal.Mean

open Cert.KernelIdeal Cert.KernelIdeal.Gen Idealize.ShloMosaic Idealize.ShloMosaic.TcCoe Idealize.SL.Sem
open Idealize.ShloMosaic.StableHlo

/-- A linear layer with its bias given as one axis. -/
def layer (x : Vec Ideal S10000x256 .f32) (w : Vec Ideal S256x256 .f32) (b : Vec Ideal S256 .f32) :
    Vec Ideal S10000x256 .f32 :=
  project x w (shapeCast S1x256 b shapeCasts_S256_S1x256)

variable (m : (ℓ : Loc nD τ sig) → Buf (Elt Ideal) ℓ) (ρ : Dev nD → PrngReg) (c : Dev nD)

/-- The users' features projected. -/
def users : Vec Ideal S10000x256 .f32 :=
  layer (m ((c : Thread nD τ).loc main_arg0)) (m ((c : Thread nD τ).loc main_arg5)) (m ((c : Thread nD τ).loc main_arg6))

/-- The items' features projected. -/
def items : Vec Ideal S10000x256 .f32 :=
  layer (m ((c : Thread nD τ).loc main_arg1)) (m ((c : Thread nD τ).loc main_arg7)) (m ((c : Thread nD τ).loc main_arg8))

/-! ## What the two calls leave -/

theorem users_left : W2 m ρ c (Proc.devRef .tc main_v1) = users m c := by
  refine (W2_arr m ρ c 3).trans ((projected0 (V1 m ρ) c).trans ?_)
  show project (W1 m ρ c (Proc.devRef .tc main_arg0)) (W1 m ρ c (Proc.devRef .tc main_arg5))
    (W1 m ρ c (Proc.devRef .tc main_v0)) = _
  rw [W1_args m ρ c main_arg0 (by decide), W1_args m ρ c main_arg5 (by decide)]
  exact congrArg (project _ _) (bias_user (W0 m ρ c))

theorem items_left : W4 m ρ c (Proc.devRef .tc main_v3) = items m c := by
  refine (W4_arr m ρ c 3).trans ((projected1 (V3 m ρ) c).trans ?_)
  show project (W3 m ρ c (Proc.devRef .tc main_arg1)) (W3 m ρ c (Proc.devRef .tc main_arg7))
    (W3 m ρ c (Proc.devRef .tc main_v2)) = _
  rw [W3_args m ρ c main_arg1 (by decide), W3_args m ρ c main_arg7 (by decide)]
  refine congrArg (project _ _) ((bias_item (W2 m ρ c)).trans ?_)
  rw [W2_args m ρ c main_arg8 (by decide)]

theorem users_kept : W4 m ρ c (Proc.devRef .tc main_v1) = users m c :=
  (W4_of m ρ c main_v1 (by decide)).trans ((W3_of m ρ c main_v1 (by decide)).trans (users_left m ρ c))

/-! ## The results -/

theorem follows_left : W7 m ρ c (Proc.devRef .tc main_v20)
    = edgeMean (users m c) (m ((c : Thread nD τ).loc main_arg2)) := by
  refine (follows_mean (W6 m ρ c)).trans ?_
  rw [show W6 m ρ c (Proc.devRef .tc main_v8) = _ from follows_rows (W5 m ρ c), W6_of m ρ c main_v7 (by decide),
    show W5 m ρ c (Proc.devRef .tc main_v7) = _ from follows_targets (W4 m ρ c),
    show W5 m ρ c (Proc.devRef .tc main_v5) = _ from follows_sources (W4 m ρ c),
    W5_of m ρ c main_v1 (by decide), users_kept, W4_args m ρ c main_arg2 (by decide)]
  rfl

/-- The first result: half the sum of the means over the two edge types that end at users. -/
theorem user_out : W11 m ρ c (Proc.devRef .tc main_v40)
    = halved (edgeMean (users m c) (m ((c : Thread nD τ).loc main_arg2)))
        (edgeMean (items m c) (m ((c : Thread nD τ).loc main_arg4))) := by
  rw [W11_of m ρ c main_v40 (by decide), W10_of m ρ c main_v40 (by decide),
    show W9 m ρ c (Proc.devRef .tc main_v40) = _ from user_result (W8 m ρ c),
    W8_of m ρ c main_v20 (by decide), follows_left,
    show W8 m ρ c (Proc.devRef .tc main_v25) = _ from rev_rows (W7 m ρ c), W8_of m ρ c main_v24 (by decide),
    show W7 m ρ c (Proc.devRef .tc main_v24) = _ from rev_targets (W6 m ρ c),
    show W7 m ρ c (Proc.devRef .tc main_v22) = _ from rev_sources (W6 m ρ c),
    W7_of m ρ c main_v3 (by decide), W6_of m ρ c main_v3 (by decide), W5_of m ρ c main_v3 (by decide), items_left,
    W6_args m ρ c main_arg4 (by decide)]
  rfl

/-- The second result: the mean over the edge type that ends at items. -/
theorem item_out : W11 m ρ c (Proc.devRef .tc main_v57)
    = edgeMean (users m c) (m ((c : Thread nD τ).loc main_arg3)) := by
  refine (item_result (W10 m ρ c)).trans ?_
  rw [show W10 m ρ c (Proc.devRef .tc main_v45) = _ from clicks_rows (W9 m ρ c), W10_of m ρ c main_v44 (by decide),
    show W9 m ρ c (Proc.devRef .tc main_v44) = _ from clicks_targets (W8 m ρ c),
    show W9 m ρ c (Proc.devRef .tc main_v42) = _ from clicks_sources (W8 m ρ c),
    W9_of m ρ c main_v1 (by decide), W8_of m ρ c main_v1 (by decide), W7_of m ρ c main_v1 (by decide),
    W6_of m ρ c main_v1 (by decide), W5_of m ρ c main_v1 (by decide), users_kept, W8_args m ρ c main_arg3 (by decide)]
  rfl

end Cert.KernelIdeal.Mean

end
-- ==== Proof.KernelRun.lean ====
/-
  The kernel's run: from any memory with zero counters every fair execution ends with each of the TensorCore's buffers at
  the contents the segments compose to; so the two results are the means, and the arguments are as launched.
-/
module

public import proofs.«01_k».proof.Proof.KernelValue

@[expose] public section

set_option maxRecDepth 16384

noncomputable section

namespace Cert.KernelIdeal.Mean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the calls ends at the last segment's contents. -/
theorem ends_at : θ_run defs (onTc (τ := τ) (main (F := F))) ⟨m, fun _ => 0, ρ⟩ (fun r => ∀ c : Dev nD,
    ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => h)

end Launch

variable (m : (ℓ : Loc nD τ sig) → Buf (Elt Ideal) ℓ) (ρ : Dev nD → PrngReg)

/-- The kernel at the ideal instance: the first result is half the sum of the follows and reverse-clicks means, the
    second the clicks mean, and the arguments are unchanged. -/
theorem run : θ_run defs (onTc (τ := τ) (main (F := Ideal))) ⟨m, fun _ => 0, ρ⟩ (fun r => ∀ c : Dev nD,
      r.2.mem ((c.tc : Thread nD τ).loc main_v40)
        = halved (edgeMean (users m c) (m ((c : Thread nD τ).loc main_arg2)))
            (edgeMean (items m c) (m ((c : Thread nD τ).loc main_arg4)))
      ∧ r.2.mem ((c.tc : Thread nD τ).loc main_v57) = edgeMean (users m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v40 (by decide))).trans (user_out m ρ c),
     (h c _ (mem_uc main_v57 (by decide))).trans (item_out m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c)⟩)
    (ends_at m ρ)

end Cert.KernelIdeal.Mean

end
-- ==== Proof.ReferenceValue.lean ====
/-
  The reference's two results as the same functions of its arguments.  Its projection multiplies all the rows at once and
  adds the bias to each: the same sum at every position.  It divides the sum of two means by two where the kernel
  multiplies by one half: the same extended real.
-/
module

public import proofs.«01_k».proof.Proof.KernelValue
public import proofs.«01_k».proof.Proof.Gen.ReferenceIdeal.Run
public import Idealize.ShloMosaic.Lib.Quiescent

@[expose] public section

set_option maxRecDepth 16384

noncomputable section

namespace Cert.ReferenceIdeal.Mean

open Cert.ReferenceIdeal Cert.ReferenceIdeal.Gen Idealize.ShloMosaic Idealize.ShloMosaic.TcCoe Idealize.SL.Sem
open Cert.KernelIdeal.Mean (layer project project_apply edgeMean halved segMean counts takeRows wrapped sources targets)

variable {F : FTy → Type} [FloatOps F]

/-- The reference's linear layer, over all the rows at once. -/
def linear (x : Vec F S10000x256 .f32) (w : Vec F S256x256 .f32) (b : Vec F S256 .f32) : Vec F S10000x256 .f32 :=
  addf (Host.dotGeneral dot_S10000x256_S256x256_S10000x256_1_0_0_1_n_n none x w)
    (broadcastInDim S10000x256 ![0, 1] bcast_S1x256_S10000x256_0_1 (broadcastInDim S1x256 ![1] bcast_S256_S1x256_1 b))

/-- A position of the whole array is its row and its column. -/
theorem position (y : S10000x256.Idx) : ∃ (r : Fin 10000) (j : Fin 256), y = ix2 r j :=
  ⟨y 0, y 1, funext fun a => by fin_cases a <;> rfl⟩

theorem linear_eq (x : Vec Ideal S10000x256 .f32) (w : Vec Ideal S256x256 .f32) (b : Vec Ideal S256 .f32) :
    linear x w b = layer x w b := by
  refine funext fun (y : S10000x256.Idx) => ?_
  obtain ⟨r, j, rfl⟩ := position y
  refine Eq.trans ?_ (project_apply x w _ r j).symm
  unfold linear
  pointwise

/-- The sum of two arrays over two. -/
def overTwo (x y : Vec F S10000x256 .f32) : Vec F S10000x256 .f32 :=
  Host.divf (addf x y) (broadcastInDim S10000x256 ![] bcast_S_S10000x256 (constant S_ .f32 0x40000000#32))

/-- The pattern of `2.0` is two. -/
theorem two_bits : Ideal.ofBits .f32 0x40000000#32 = ((2 : ℝ) : EReal) := by
  simp [Ideal.ofBits, Ideal.ieee, -EReal.coe_mul]; norm_num

/-- The pattern of `0.5` is one half. -/
theorem half_bits : Ideal.ofBits .f32 0x3F000000#32 = ((1 / 2 : ℝ) : EReal) := by
  simp [Ideal.ofBits, Ideal.ieee, -EReal.coe_mul]; norm_num

theorem overTwo_eq (x y : Vec Ideal S10000x256 .f32) : overTwo x y = halved x y := by
  refine funext fun i => ?_
  show Ideal.div (x i + y i) (Ideal.ofBits .f32 0x40000000#32) = (x i + y i) * Ideal.ofBits .f32 0x3F000000#32
  rw [two_bits, half_bits, Ideal.div_coe (by norm_num)]

variable (m : (ℓ : Loc nD τ sig) → Buf (Elt Ideal) ℓ) (ρ : Dev nD → PrngReg) (c : Dev nD)

/-- The users' features projected. -/
def users : Vec Ideal S10000x256 .f32 :=
  layer (m ((c.tc : Thread nD τ).loc main_arg0)) (m ((c.tc : Thread nD τ).loc main_arg5)) (m ((c.tc : Thread nD τ).loc main_arg6))

/-- The items' features projected. -/
def items : Vec Ideal S10000x256 .f32 :=
  layer (m ((c.tc : Thread nD τ).loc main_arg1)) (m ((c.tc : Thread nD τ).loc main_arg7)) (m ((c.tc : Thread nD τ).loc main_arg8))

/-! The two programs index a gather and a scatter alike. -/

theorem gather_rows : gather_S10000x256_S160000x1_S160000x256_1_0_n_n_0_1_1256
    = Cert.KernelIdeal.gather_S10000x256_S160000x1_S160000x256_1_0_n_n_0_1_1256 := rfl

theorem scatter_rows : scatter_S10000x256_S160000x1_S160000x256_1_0_0_1
    = Cert.KernelIdeal.scatter_S10000x256_S160000x1_S160000x256_1_0_0_1 := rfl

theorem scatter_counts : scatter_S10000_S160000x1_S160000_n_0_0_1
    = Cert.KernelIdeal.scatter_S10000_S160000x1_S160000_n_0_0_1 := rfl

theorem user_out : Value.res_out0 (F := Ideal) m c
    = halved (edgeMean (users m c) (m ((c.tc : Thread nD τ).loc main_arg2)))
        (edgeMean (items m c) (m ((c.tc : Thread nD τ).loc main_arg4))) := by
  refine Eq.trans (b := overTwo
    (edgeMean (linear (m ((c.tc : Thread nD τ).loc main_arg0)) (m ((c.tc : Thread nD τ).loc main_arg5))
      (m ((c.tc : Thread nD τ).loc main_arg6))) (m ((c.tc : Thread nD τ).loc main_arg2)))
    (edgeMean (linear (m ((c.tc : Thread nD τ).loc main_arg1)) (m ((c.tc : Thread nD τ).loc main_arg7))
      (m ((c.tc : Thread nD τ).loc main_arg8))) (m ((c.tc : Thread nD τ).loc main_arg4)))) ?_ ?_
  · unfold Value.res_out0 Value.res_main_v61
    rw [gather_rows, scatter_rows, scatter_counts]
    unfold overTwo edgeMean segMean counts takeRows wrapped sources targets linear
    with_reducible rfl
  · rw [overTwo_eq, linear_eq, linear_eq]; rfl

/-- The reference at the ideal instance, its results named as the kernel's are. -/
theorem run : θ_run defs (onTc (τ := τ) (main (F := Ideal))) ⟨m, fun _ => 0, ρ⟩ (fun r => ∀ c : Dev nD,
      r.2.mem ((c.tc : Thread nD τ).loc main_v61)
        = halved (edgeMean (users m c) (m ((c.tc : Thread nD τ).loc main_arg2)))
            (edgeMean (items m c) (m ((c.tc : Thread nD τ).loc main_arg4)))
      ∧ r.2.mem ((c.tc : Thread nD τ).loc main_v58) = edgeMean (users m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c).1.trans (user_out m c),
     (h c).2.1.trans (Eq.trans (b := edgeMean (linear (m ((c.tc : Thread nD τ).loc main_arg0))
       (m ((c.tc : Thread nD τ).loc main_arg5)) (m ((c.tc : Thread nD τ).loc main_arg6)))
       (m ((c.tc : Thread nD τ).loc main_arg3)))
         (by
           rw [gather_rows, scatter_rows, scatter_counts]
           unfold edgeMean segMean counts takeRows wrapped sources targets linear
           with_reducible rfl)
         (by rw [linear_eq]; rfl)),
     (h c).2.2⟩)
    (Value.run (F := Ideal) m ρ)

/-- The reference's frame: it has no counters, and its run leaves the arguments as they were. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2.2, sem_eq_zero_of_no_sems (by decide) r.2⟩) (Value.run m ρ)

end Cert.ReferenceIdeal.Mean

end
-- ==== Proof.lean ====
/-
  The five claims about the kernel, its ideal reading and the reference: the three frames, the preservation of the text,
  and the equality of both results at the ideal instance.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- From memories that agree on the arguments the kernel and the reference end with equal results: both are the means
    over the edge types of the same projections. -/
theorem algebraic : Cert.algebraic_KernelIdeal_ReferenceIdeal := by
  intro m ρ m' ρ' _ hagree
  refine ⟨fun c => Cert.KernelIdeal.Mean.halved
      (Cert.KernelIdeal.Mean.edgeMean (Cert.KernelIdeal.Mean.users m c) (m ((c.tc : Thread _ _).loc Cert.KernelIdeal.main_arg2)))
      (Cert.KernelIdeal.Mean.edgeMean (Cert.KernelIdeal.Mean.items m c) (m ((c.tc : Thread _ _).loc Cert.KernelIdeal.main_arg4))),
    fun c => Cert.KernelIdeal.Mean.edgeMean (Cert.KernelIdeal.Mean.users m c)
      (m ((c.tc : Thread _ _).loc Cert.KernelIdeal.main_arg3)),
    Cert.KernelIdeal.Mean.run m ρ,
    (θ_run Cert.ReferenceIdeal.defs _ _).mono (fun _ h c => ?_) (Cert.ReferenceIdeal.Mean.run m' ρ')⟩
  obtain ⟨e0, e1, e2, e3, e4, e5, e6, e7, e8⟩ := hagree c
  have hu : Cert.ReferenceIdeal.Mean.users m' c = Cert.KernelIdeal.Mean.users m c := by
    unfold Cert.ReferenceIdeal.Mean.users Cert.KernelIdeal.Mean.users; rw [e0, e5, e6]
  have hi : Cert.ReferenceIdeal.Mean.items m' c = Cert.KernelIdeal.Mean.items m c := by
    unfold Cert.ReferenceIdeal.Mean.items Cert.KernelIdeal.Mean.items; rw [e1, e7, e8]
  exact ⟨(h c).1.trans (by rw [hu, hi, e2, e4]), (h c).2.1.trans (by rw [hu, e3]), (h c).2.2⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Mean.frame m ρ,
  trivial,
  algebraic⟩

end Cert.Proof

end
